-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x256x256 : Shape := ⟨4, ![4, 256, 256, 256]⟩
abbrev S256 : Shape := ⟨1, ![256]⟩
abbrev S256x256 : Shape := ⟨2, ![256, 256]⟩
abbrev S1x1x256 : Shape := ⟨3, ![1, 1, 256]⟩
abbrev S1x256x32x256 : Shape := ⟨4, ![1, 256, 32, 256]⟩
abbrev S256x32x256 : Shape := ⟨3, ![256, 32, 256]⟩
abbrev S256x32 : Shape := ⟨2, ![256, 32]⟩
abbrev S256x32x1 : Shape := ⟨3, ![256, 32, 1]⟩
abbrev S1x256 : Shape := ⟨2, ![1, 256]⟩

abbrev nBuf : Space → Nat
  | .hbm => 8
  | .vmem => 9
  | .smem => 0
  | _ => 0

abbrev bufTy : (tb : Table) → Fin (tcTables nBuf tb) → BufTy
  | .hbm, ⟨0, _⟩ => ⟨S4x256x256x256, .f32⟩
  | .hbm, ⟨1, _⟩ => ⟨S4x256x256x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S1x1x256, .f32⟩
  | .hbm, ⟨6, _⟩ => ⟨S1x1x256, .f32⟩
  | .hbm, ⟨7, _⟩ => ⟨S4x256x256x256, .f32⟩
  | .local _ .vmem, ⟨0, _⟩ => ⟨S1x256x32x256, .f32⟩
  | .local _ .vmem, ⟨1, _⟩ => ⟨S1x256x32x256, .f32⟩
  | .local _ .vmem, ⟨2, _⟩ => ⟨S1x256x32x256, .f32⟩
  | .local _ .vmem, ⟨3, _⟩ => ⟨S1x256x32x256, .f32⟩
  | .local _ .vmem, ⟨4, _⟩ => ⟨S1x1x256, .f32⟩
  | .local _ .vmem, ⟨5, _⟩ => ⟨S1x1x256, .f32⟩
  | .local _ .vmem, ⟨6, _⟩ => ⟨S256x256, .f32⟩
  | .local _ .vmem, ⟨7, _⟩ => ⟨S1x256x32x256, .f32⟩
  | .local _ .vmem, ⟨8, _⟩ => ⟨S1x256x32x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x256x256x256 : Shape := ⟨4, ![4, 256, 256, 256]⟩
abbrev S256 : Shape := ⟨1, ![256]⟩
abbrev S256x256 : Shape := ⟨2, ![256, 256]⟩
abbrev S_ : Shape := ⟨0, ![]⟩
abbrev S4x256x256 : Shape := ⟨3, ![4, 256, 256]⟩
abbrev S4x256x256x1 : Shape := ⟨4, ![4, 256, 256, 1]⟩
abbrev S1x1x1x256 : Shape := ⟨4, ![1, 1, 1, 256]⟩
abbrev S256x4x256x256 : Shape := ⟨4, ![256, 4, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S4x256x256x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S4x256x256x256, .f32⟩
  | .hbm, ⟨6, _⟩ => ⟨S_, .f32⟩
  | .hbm, ⟨7, _⟩ => ⟨S4x256x256, .f32⟩
  | .hbm, ⟨8, _⟩ => ⟨S4x256x256x1, .f32⟩
  | .hbm, ⟨9, _⟩ => ⟨S_, .f32⟩
  | .hbm, ⟨10, _⟩ => ⟨S4x256x256x1, .f32⟩
  | .hbm, ⟨11, _⟩ => ⟨S4x256x256x1, .f32⟩
  | .hbm, ⟨12, _⟩ => ⟨S4x256x256x256, .f32⟩
  | .hbm, ⟨13, _⟩ => ⟨S4x256x256x256, .f32⟩
  | .hbm, ⟨14, _⟩ => ⟨S4x256x256x256, .f32⟩
  | .hbm, ⟨15, _⟩ => ⟨S_, .f32⟩
  | .hbm, ⟨16, _⟩ => ⟨S4x256x256, .f32⟩
  | .hbm, ⟨17, _⟩ => ⟨S4x256x256x1, .f32⟩
  | .hbm, ⟨18, _⟩ => ⟨S_, .f32⟩
  | .hbm, ⟨19, _⟩ => ⟨S4x256x256x1, .f32⟩
  | .hbm, ⟨20, _⟩ => ⟨S4x256x256x1, .f32⟩
  | .hbm, ⟨21, _⟩ => ⟨S4x256x256x256, .f32⟩
  | .hbm, ⟨22, _⟩ => ⟨S4x256x256x256, .f32⟩
  | .hbm, ⟨23, _⟩ => ⟨S_, .f32⟩
  | .hbm, ⟨24, _⟩ => ⟨S4x256x256x1, .f32⟩
  | .hbm, ⟨25, _⟩ => ⟨S4x256x256x1, .f32⟩
  | .hbm, ⟨26, _⟩ => ⟨S4x256x256x1, .f32⟩
  | .hbm, ⟨27, _⟩ => ⟨S4x256x256x256, .f32⟩
  | .hbm, ⟨28, _⟩ => ⟨S4x256x256x256, .f32⟩
  | .hbm, ⟨29, _⟩ => ⟨S1x1x1x256, .f32⟩
  | .hbm, ⟨30, _⟩ => ⟨S4x256x256x256, .f32⟩
  | .hbm, ⟨31, _⟩ => ⟨S4x256x256x256, .f32⟩
  | .hbm, ⟨32, _⟩ => ⟨S1x1x1x256, .f32⟩
  | .hbm, ⟨33, _⟩ => ⟨S4x256x256x256, .f32⟩
  | .hbm, ⟨34, _⟩ => ⟨S4x256x256x256, .f32⟩
  | .hbm, ⟨35, _⟩ => ⟨S256x4x256x256, .f32⟩
  | .hbm, ⟨36, _⟩ => ⟨S4x256x256x256, .f32⟩
  | .hbm, ⟨37, _⟩ => ⟨S_, .f32⟩
  | .hbm, ⟨38, _⟩ => ⟨S4x256x256x256, .f32⟩
  | .hbm, ⟨39, _⟩ => ⟨S4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Spec.lean ====
/- The mathematics of the problem over the extended reals: LayerNorm of one row of 256 numbers, and one element of the
   1x1 convolution of normalised rows followed by ReLU. Nothing here mentions a program. -/
module

public import Idealize.ShloMosaic.PureOps.Ideal

@[expose] public section

noncomputable section

namespace Cert.Spec

open Idealize.ShloMosaic

/-- A row of the last axis. -/
abbrev Row := Fin 256 → EReal

/-- The extent 256 of the last axis, as the programs' literal. -/
def extent : EReal := Ideal.ofBits .f32 0x43800000#32

/-- The number added to the variance, as the programs' literal (the float nearest to `1e-5`). -/
def eps : EReal := Ideal.ofBits .f32 0x3727C5AC#32

/-- The mean of a row. -/
def mean (z : Row) : EReal := Ideal.div (∑ k, z k) extent

/-- A row less its mean. -/
def centred (z : Row) : Row := fun k => z k - mean z

/-- The variance of a row: the mean of its squared deviations. -/
def variance (z : Row) : EReal := Ideal.div (∑ k, centred z k * centred z k) extent

/-- The reciprocal standard deviation of a row. -/
def invStd (z : Row) : EReal := Ideal.rsqrt (variance z + eps)

/-- LayerNorm of a row with weight `g` and bias `b`. -/
def layerNorm (z g b : Row) : Row := fun k => centred z k * invStd z * g k + b k

/-- One element of the result: the channels' normalised rows `z c` at column `k`, weighted by `w`, summed over the
    channels and clipped below at zero. -/
def cell (z : Fin 256 → Row) (g b w : Row) (k : Fin 256) : EReal := max (∑ c, w c * layerNorm (z c) g b k) 0

/-- The kernel multiplies the reciprocal deviation by the weight first. -/
theorem layerNorm_regrouped (z g b : Row) (k : Fin 256) :
    centred z k * (invStd z * g k) + b k = layerNorm z g b k := by
  rw [layerNorm, mul_assoc]

end Cert.Spec

end
-- ==== Proof.Block.lean ====
/- What the kernel's body computes from one block of each operand, read at an index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic Cert.Spec

/-- The row of a block's channel `c` at its line `h`. -/
abbrev blockRows (x y : Vec Ideal S1x256x32x256 .f32) (h : Fin 32) : Fin 256 → Row :=
  fun c k => x (ix4 0 c h k) + y (ix4 0 c h k)

/-- The body's product, clipped at zero, read at an output channel `o`, a line `h` and a column `k` of the block: the
    element of the specification over the block's rows. -/
theorem pay_apply (x y : Vec Ideal S1x256x32x256 .f32) (g b : Vec Ideal S1x1x256 .f32) (w : Vec Ideal S256x256 .f32)
    (o : Fin 256) (h : Fin 32) (k : Fin 256) :
    k0_pay2 (F := Ideal) x y g b w (ix3 o h k)
      = cell (blockRows x y h) (fun k => g (ix3 0 0 k)) (fun k => b (ix3 0 0 k)) (fun c => w (ix2 o c)) k := by
  unfold cell
  simp only [← layerNorm_regrouped]
  simp only [invStd, variance, centred, mean, extent, eps, blockRows]
  pointwise [k0_pay2]

end Cert.KernelIdeal.Block

end
-- ==== Proof.Output.lean ====
/- The kernel's result array after the run, as one function of the argument arrays. -/
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Output

open Cert.KernelIdeal Cert.KernelIdeal.Gen Idealize.ShloMosaic Idealize.ShloMosaic.TcCoe Idealize.SL.Sem Cert.Spec

variable (m : (ℓ : Loc nD τ sig) → Buf (Elt Ideal) ℓ)

/-- The result array of five argument arrays: at image `n`, output channel `o`, line `h` and column `k` the element of the
    specification over the channels' rows of the sum of the two images. -/
def result (x y : Vec Ideal S4x256x256x256 .f32) (g b : Vec Ideal S256 .f32) (w : Vec Ideal S256x256 .f32) :
    Vec Ideal S4x256x256x256 .f32 :=
  fun i => cell (fun c k => x (ix4 (i 0) c (i 2) k) + y (ix4 (i 0) c (i 2) k)) (fun k => g (ix1 k)) (fun k => b (ix1 k))
    (fun c => w (ix2 (i 1) c)) (i 3)

/-- `result` of the arguments device `c` holds at launch. -/
abbrev launched (c : Dev nD) : Vec Ideal S4x256x256x256 .f32 :=
  result (m ((c : Thread nD τ).loc main_arg0)) (m ((c : Thread nD τ).loc main_arg1))
    (m ((c : Thread nD τ).loc main_arg2)) (m ((c : Thread nD τ).loc main_arg3)) (m ((c : Thread nD τ).loc main_arg4))

/-- The windows' block indices: the images and the result move together, an image and a group of 32 lines per grid
    point; the parameters stay. -/
theorem idx : ∀ t : Fin cfg0.N,
    win0_0.index t = ![t.val / 8, 0, t.val % 8, 0] ∧ win0_1.index t = ![t.val / 8, 0, t.val % 8, 0]
      ∧ win0_2.index t = ![0, 0, 0] ∧ win0_3.index t = ![0, 0, 0] ∧ win0_4.index t = ![0, 0]
      ∧ win0_5.index t = ![t.val / 8, 0, t.val % 8, 0] :=
  (by decide +kernel : ∀ t : Fin grid0.N, _)

/-- What the body stores at block index `y` of grid point `t` is `launched` at the array index `y` sits at. -/
theorem point (c : Dev nD) (t : Fin cfg0.N) (y : S1x256x32x256.Idx) :
    k0_pay1 (k0_pay2 (iblk m c 0 t) (iblk m c 1 t) (iblk m c 2 t) (iblk m c 3 t) (iblk m c 4 t)) y
      = launched m c (((cfg0.win 5).blk t).view.emb y) := by
  pointwise [k0_pay1]
  refine (Block.pay_apply _ _ _ _ _ (y 1) (y 2) (y 3)).trans ?_
  simp only [Block.blockRows, launched, result, cell, layerNorm, centred, invStd, variance, mean]
  blk_point [iblk, V, idx t]

/-- The result array after the run: every grid point writes its own block, and the blocks tile the array. -/
theorem final (c : Dev nD) : (dats m 0 c).arrAt 5 (cfgs 0).N = launched m c := by
  refine (dats m 0 c).arrAt_eq_of_covers 5 _ (by decide +kernel) fun t _ y => ?_
  blk_simp
  rw [after0_5]
  frame_out
  exact point m c t y

end Cert.KernelIdeal.Output

end
-- ==== Proof.RefCell.lean ====
/- What the reference computes, read at an index. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Cell

open Cert.ReferenceIdeal Cert.ReferenceIdeal.Gen Cert.ReferenceIdeal.Read Idealize.ShloMosaic Cert.Spec

/-- The row of image `n`, channel `c`, line `h`. -/
abbrev rows (x y : Vec Ideal S4x256x256x256 .f32) (n : Fin 4) (h : Fin 256) : Fin 256 → Row :=
  fun c k => x (ix4 n c h k) + y (ix4 n c h k)

/-- The reference's result read at image `n`, output channel `o`, line `h`, column `k`: the element of the
    specification. -/
theorem ref_apply (x y : Vec Ideal S4x256x256x256 .f32) (g b : Vec Ideal S256 .f32) (w : Vec Ideal S256x256 .f32)
    (n : Fin 4) (o h k : Fin 256) :
    val_main_v28 (F := Ideal) x y g b w (ix4 n o h k)
      = cell (rows x y n h) (fun k => g (ix1 k)) (fun k => b (ix1 k)) (fun c => w (ix2 o c)) k := by
  rw [← val_main_v28_eq]
  unfold cell layerNorm
  simp only [invStd, variance, centred, mean, extent, eps, rows]
  pointwise

end Cert.ReferenceIdeal.Cell

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Output
public import proofs.«01_k».proof.Proof.RefCell
public import Idealize.ShloMosaic.Lib.Claim
public import Idealize.ShloMosaic.Adequacy
public import Idealize.ShloMosaic.Init

@[expose] public section

noncomputable section

namespace Cert.Proof

open Idealize.ShloMosaic Idealize.SL.Sem

/-- The reference runs safely and leaves its arguments and semaphores. -/
theorem frame_reference : Cert.quiescent_ReferenceIdeal := by
  intro m g _
  refine (θ_run _ _ _).mono (fun r h => ?_) (Cert.ReferenceIdeal.Value.run (F := Ideal) m g)
  exact ⟨fun c => (h c).2, sem_eq_zero_of_no_sems (by decide) r.2⟩

/-- Over the extended reals, from the same arguments, the kernel and the reference end with the same result array. -/
theorem algebraic : Cert.algebraic_KernelIdeal_ReferenceIdeal := by
  pair_intro
  · run_from Cert.KernelIdeal.Value.run_blocks m g
  · run_from Cert.ReferenceIdeal.Value.run (F := Ideal) m' g'
    rw [Cert.KernelIdeal.Output.final m c]
    refine (Cert.ReferenceIdeal.Read.val_main_v28_eq _ _ _ _ _).trans (funext fun j => ?_)
    idx_vars j
    exact Cert.ReferenceIdeal.Cell.ref_apply _ _ _ _ _ _ _ _ _

/-- The certificate: every claim of `Defs.lean`. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial,
  algebraic⟩

end Cert.Proof

end
